-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bits [hPre_bits : Cert.Pre_bits.Facts] (m : (ℓ : Loc Cert.KernelIdeal.nD Cert.KernelIdeal.τ Cert.KernelIdeal.sig) → Buf (Elt Ideal) ℓ) : Prop :=
  ∀ c : Dev Cert.KernelIdeal.nD,
    (Cert.Pre_bits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bits [hPre_bits : Cert.Pre_bits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bits [hKernelIdeal : Cert.KernelIdeal.Facts] [hPre_bits : Cert.Pre_bits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bits [hReferenceIdeal : Cert.ReferenceIdeal.Facts] [hPre_bits : Cert.Pre_bits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bits [hKernelIdeal : Cert.KernelIdeal.Facts] [hReferenceIdeal : Cert.ReferenceIdeal.Facts] [hPre_bits : Cert.Pre_bits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bits : Cert.Pre_bits.Facts),
    quiescent_Kernel (hKernel := hKernel)
    ∧ quiescent_KernelIdeal (hKernelIdeal := hKernelIdeal)
    ∧ quiescent_KernelIdeal_pre_bits (hKernelIdeal := hKernelIdeal) (hPre_bits := hPre_bits)
    ∧ quiescent_ReferenceIdeal (hReferenceIdeal := hReferenceIdeal)
    ∧ quiescent_ReferenceIdeal_pre_bits (hReferenceIdeal := hReferenceIdeal) (hPre_bits := hPre_bits)
    ∧ preserves_Kernel_KernelIdeal
    ∧ algebraic_KernelIdeal_ReferenceIdeal_pre_bits (hKernelIdeal := hKernelIdeal) (hReferenceIdeal := hReferenceIdeal) (hPre_bits := hPre_bits)
-- ==== Pre_bits.lean ====
abbrev S1024x26 : Shape := ⟨2, ![1024, 26]⟩
abbrev S26x4096 : Shape := ⟨2, ![26, 4096]⟩
abbrev S100x4096 : Shape := ⟨2, ![100, 4096]⟩
abbrev S_ : Shape := ⟨0, ![]⟩

class Facts : Prop where
  bcast_S_S26x4096 : S_.BroadcastsInDim S26x4096 (![] : Fin 0 → Fin S26x4096.rank)
  reducesTo_S26x4096_S_d0_1 : S26x4096.ReducesTo [0, 1] S_
  h_S_ : 0 < S_.numel
  bcast_S_S100x4096 : S_.BroadcastsInDim S100x4096 (![] : Fin 0 → Fin S100x4096.rank)
  reducesTo_S100x4096_S_d0_1 : S100x4096.ReducesTo [0, 1] S_

variable [Facts]

def fn {F : FTy → Type} [FloatOps F] (main_arg0 : FVec F S1024x26 .f32) (main_arg1 : IVec S26x4096 8) (main_arg2 : IVec S100x4096 8) : IVec S_ 1 :=
  let main_c : IVec S_ 8 := constantI S_ 8 1#8
  let main_v0 : IVec S26x4096 8 := broadcastInDim S26x4096 ![] bcast_S_S26x4096 main_c
  let main_v1 : IVec S26x4096 1 := cmpi .ule main_arg1 main_v0
  let main_c_0 : IVec S_ 1 := constantI S_ 1 1#1
  let main_v2 : IVec S_ 1 := (fun x v => Host.reduce IntOp.andi x v reducesTo_S26x4096_S_d0_1 h_S_) main_v1 main_c_0
  let main_c_1 : IVec S_ 8 := constantI S_ 8 1#8
  let main_v3 : IVec S100x4096 8 := broadcastInDim S100x4096 ![] bcast_S_S100x4096 main_c_1
  let main_v4 : IVec S100x4096 1 := cmpi .ule main_arg2 main_v3
  let main_c_2 : IVec S_ 1 := constantI S_ 1 1#1
  let main_v5 : IVec S_ 1 := (fun x v => Host.reduce IntOp.andi x v reducesTo_S100x4096_S_d0_1 h_S_) main_v4 main_c_2
  let main_v6 : IVec S_ 1 := andi main_v2 main_v5
  main_v6
-- ==== Kernel.lean ====
abbrev S1024x26 : Shape := ⟨2, ![1024, 26]⟩
abbrev S26x4096 : Shape := ⟨2, ![26, 4096]⟩
abbrev S100x4096 : Shape := ⟨2, ![100, 4096]⟩
abbrev S1024x4096 : Shape := ⟨2, ![1024, 4096]⟩
abbrev S100x2048 : Shape := ⟨2, ![100, 2048]⟩
abbrev S28x2048 : Shape := ⟨2, ![28, 2048]⟩
abbrev S128x2048 : Shape := ⟨2, ![128, 2048]⟩
abbrev S26x2048 : Shape := ⟨2, ![26, 2048]⟩
abbrev S1x2048 : Shape := ⟨2, ![1, 2048]⟩
abbrev S3328x2048 : Shape := ⟨2, ![3328, 2048]⟩
abbrev S1024x128 : Shape := ⟨2, ![1024, 128]⟩
abbrev S1024x1 : Shape := ⟨2, ![1024, 1]⟩
abbrev S1024x3328 : Shape := ⟨2, ![1024, 3328]⟩
abbrev S1024x2048 : Shape := ⟨2, ![1024, 2048]⟩

abbrev nBuf : Space → Nat
  | .hbm => 4
  | .vmem => 4
  | .smem => 0
  | _ => 0

abbrev bufTy : (tb : Table) → Fin (tcTables nBuf tb) → BufTy
  | .hbm, ⟨0, _⟩ => ⟨S1024x26, .f32⟩
  | .hbm, ⟨1, _⟩ => ⟨S26x4096, .i8⟩
  | .hbm, ⟨2, _⟩ => ⟨S100x4096, .i8⟩
  | .hbm, ⟨3, _⟩ => ⟨S1024x4096, .i8⟩
  | .local _ .vmem, ⟨0, _⟩ => ⟨S1024x26, .f32⟩
  | .local _ .vmem, ⟨1, _⟩ => ⟨S26x4096, .i8⟩
  | .local _ .vmem, ⟨2, _⟩ => ⟨S100x4096, .i8⟩
  | .local _ .vmem, ⟨3, _⟩ => ⟨S1024x4096, .i8⟩
  | _, _ => ⟨S1024x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x26 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S26x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S100x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x26 : Shape := ⟨2, ![1024, 26]⟩
abbrev S26x4096 : Shape := ⟨2, ![26, 4096]⟩
abbrev S100x4096 : Shape := ⟨2, ![100, 4096]⟩
abbrev S_ : Shape := ⟨0, ![]⟩
abbrev S1024x26x1 : Shape := ⟨3, ![1024, 26, 1]⟩
abbrev S1 : Shape := ⟨1, ![1]⟩
abbrev S1x1x1 : Shape := ⟨3, ![1, 1, 1]⟩
abbrev S1024x26x4096 : Shape := ⟨3, ![1024, 26, 4096]⟩
abbrev S1x26x4096 : Shape := ⟨3, ![1, 26, 4096]⟩
abbrev S1024x4096 : Shape := ⟨2, ![1024, 4096]⟩

abbrev nBuf : Space → Nat
  | .hbm => 59
  | .vmem => 0
  | .smem => 0
  | _ => 0

abbrev bufTy : (tb : Table) → Fin (tcTables nBuf tb) → BufTy
  | .hbm, ⟨0, _⟩ => ⟨S1024x26, .f32⟩
  | .hbm, ⟨1, _⟩ => ⟨S26x4096, .i8⟩
  | .hbm, ⟨2, _⟩ => ⟨S100x4096, .i8⟩
  | .hbm, ⟨3, _⟩ => ⟨S_, .f32⟩
  | .hbm, ⟨4, _⟩ => ⟨S1024x26, .f32⟩
  | .hbm, ⟨5, _⟩ => ⟨S1024x26, .f32⟩
  | .hbm, ⟨6, _⟩ => ⟨S_, .f32⟩
  | .hbm, ⟨7, _⟩ => ⟨S1024x26, .f32⟩
  | .hbm, ⟨8, _⟩ => ⟨S1024x26, .f32⟩
  | .hbm, ⟨9, _⟩ => ⟨S_, .f32⟩
  | .hbm, ⟨10, _⟩ => ⟨S1024x26, .f32⟩
  | .hbm, ⟨11, _⟩ => ⟨S1024x26, .f32⟩
  | .hbm, ⟨12, _⟩ => ⟨S1024x26, .f32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S1024x26, .f32⟩
  | .hbm, ⟨17, _⟩ => ⟨S1024x26, .f32⟩
  | .hbm, ⟨18, _⟩ => ⟨S_, .f32⟩
  | .hbm, ⟨19, _⟩ => ⟨S1024x26, .f32⟩
  | .hbm, ⟨20, _⟩ => ⟨S1024x26, .f32⟩
  | .hbm, ⟨21, _⟩ => ⟨S1024x26, .i32⟩
  | .hbm, ⟨22, _⟩ => ⟨S_, .i32⟩
  | .hbm, ⟨23, _⟩ => ⟨S1024x26, .i32⟩
  | .hbm, ⟨24, _⟩ => ⟨S1024x26, .i1⟩
  | .hbm, ⟨25, _⟩ => ⟨S_, .i32⟩
  | .hbm, ⟨26, _⟩ => ⟨S1024x26, .i32⟩
  | .hbm, ⟨27, _⟩ => ⟨S1024x26, .i32⟩
  | .hbm, ⟨28, _⟩ => ⟨S1024x26, .i32⟩
  | .hbm, ⟨29, _⟩ => ⟨S1024x26x1, .i32⟩
  | .hbm, ⟨30, _⟩ => ⟨S1, .i32⟩
  | .hbm, ⟨31, _⟩ => ⟨S_, .i32⟩
  | .hbm, ⟨32, _⟩ => ⟨S1024x26x1, .i32⟩
  | .hbm, ⟨33, _⟩ => ⟨S1024x26x1, .i1⟩
  | .hbm, ⟨34, _⟩ => ⟨S1x1x1, .i32⟩
  | .hbm, ⟨35, _⟩ => ⟨S1024x26x1, .i32⟩
  | .hbm, ⟨36, _⟩ => ⟨S1024x26x1, .i1⟩
  | .hbm, ⟨37, _⟩ => ⟨S1024x26x1, .i1⟩
  | .hbm, ⟨38, _⟩ => ⟨S_, .i1⟩
  | .hbm, ⟨39, _⟩ => ⟨S1024x26, .i1⟩
  | .hbm, ⟨40, _⟩ => ⟨S1024x26x4096, .i8⟩
  | .hbm, ⟨41, _⟩ => ⟨S1024x26x4096, .i1⟩
  | .hbm, ⟨42, _⟩ => ⟨S_, .i8⟩
  | .hbm, ⟨43, _⟩ => ⟨S1024x26x4096, .i8⟩
  | .hbm, ⟨44, _⟩ => ⟨S1024x26x4096, .i8⟩
  | .hbm, ⟨45, _⟩ => ⟨S1024x26x4096, .i32⟩
  | .hbm, ⟨46, _⟩ => ⟨S26x4096, .i32⟩
  | .hbm, ⟨47, _⟩ => ⟨S1x26x4096, .i32⟩
  | .hbm, ⟨48, _⟩ => ⟨S1024x26x4096, .i32⟩
  | .hbm, ⟨49, _⟩ => ⟨S1024x26x4096, .i32⟩
  | .hbm, ⟨50, _⟩ => ⟨S_, .i32⟩
  | .hbm, ⟨51, _⟩ => ⟨S1024x4096, .i32⟩
  | .hbm, ⟨52, _⟩ => ⟨S_, .i32⟩
  | .hbm, ⟨53, _⟩ => ⟨S1024x4096, .i32⟩
  | .hbm, ⟨54, _⟩ => ⟨S1024x4096, .i32⟩
  | .hbm, ⟨55, _⟩ => ⟨S_, .i32⟩
  | .hbm, ⟨56, _⟩ => ⟨S1024x4096, .i32⟩
  | .hbm, ⟨57, _⟩ => ⟨S1024x4096, .i1⟩
  | .hbm, ⟨58, _⟩ => ⟨S1024x4096, .i8⟩
  | _, _ => ⟨S1024x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_c_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_call2_c : Ref sig .tc := ⟨.hbm, 22, rfl⟩
abbrev main_call2_v0 : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_c_1 : Ref sig .tc := ⟨.hbm, 30, rfl⟩
abbrev main_call2_c_2 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_3 : Ref sig .tc := ⟨.hbm, 38, rfl⟩
abbrev main_call2_v12 : Ref sig .tc := ⟨.hbm, 39, rfl⟩
abbrev main_call2_v13 : Ref sig .tc := ⟨.hbm, 40, rfl⟩
abbrev main_call2_v14 : Ref sig .tc := ⟨.hbm, 41, rfl⟩
abbrev main_call2_c_4 : Ref sig .tc := ⟨.hbm, 42, rfl⟩
abbrev main_call2_v15 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_c_3 : Ref sig .tc := ⟨.hbm, 50, rfl⟩
abbrev main_v15 : Ref sig .tc := ⟨.hbm, 51, rfl⟩
abbrev main_c_4 : Ref sig .tc := ⟨.hbm, 52, rfl⟩
abbrev main_v16 : Ref sig .tc := ⟨.hbm, 53, rfl⟩
abbrev main_v17 : Ref sig .tc := ⟨.hbm, 54, rfl⟩
abbrev main_c_5 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩

abbrev nD : Nat := 1
abbrev τ : Topo := Topo.v7x

variable {F : FTy → Type} [FloatOps F]
-- ==== Proof.Spec.lean ====
module

public import Idealize.ShloMosaic.PureOps.Ideal
public import Idealize.ShloMosaic.Lib.Pointwise

@[expose] public section

noncomputable section

/-! # The hypervector of a row, and the word arithmetic both programs do

Every feature `x (b, s)` picks one of 100 levels. The row's count at a dimension `d` sums over the 26 positions the
XOR of the position's bit and the picked level's bit; the result is the majority vote of that count. -/

namespace Cert.Hyper

open Idealize.ShloMosaic Idealize.ShloMosaic.Pointwise

/-- The lattice point of a feature before clipping: the feature times 99, rounded to the nearest integer. -/
def lattice (u : EReal) : EReal :=
  Ideal.liftRound Ideal.roundHalfEven (Ideal.div u 1 * Ideal.ofBits FTy.f32 1120272384#32)

/-- The lattice point clipped to the interval from 0 to 99, as a 32-bit word. -/
def levelWord (u : EReal) : BitVec 32 :=
  Ideal.fptosi 32 (min (((99#32).toInt : ℝ) : EReal) (max (((0#32).toInt : ℝ) : EReal) (lattice u)))

/-- A real between 0 and 99 becomes a word below 100. -/
theorem fptosi_clip_lt (y : ℝ) (h0 : 0 ≤ y) (h99 : y ≤ 99) : (Ideal.fptosi 32 (y : EReal)).toNat < 100 := by
  have hf0 : 0 ≤ ⌊y⌋ := Int.floor_nonneg.2 h0
  have hf : ⌊y⌋ ≤ 99 := Int.floor_le_iff.2 (by push_cast; linarith)
  show (BitVec.ofInt 32 (max _ (min _ (if 0 ≤ y then ⌊y⌋ else ⌈y⌉)))).toNat < 100
  rw [if_pos h0, BitVec.toNat_ofInt]
  omega

/-- The clipped word is one of the 100 levels. -/
theorem levelWord_lt (u : EReal) : (levelWord u).toNat < 100 := by
  unfold levelWord
  generalize lattice u = z
  have e0 : (((0#32).toInt : ℝ) : EReal) = ((0 : ℝ) : EReal) := by simp
  have e99 : (((99#32).toInt : ℝ) : EReal) = ((99 : ℝ) : EReal) := by rw [show (99#32).toInt = 99 from rfl]; norm_num
  rw [e0, e99]
  induction z with
  | bot => rw [max_eq_left bot_le, min_eq_right (by norm_cast)]; exact fptosi_clip_lt 0 le_rfl (by norm_num)
  | top => rw [max_eq_right le_top, min_eq_left le_top]; exact fptosi_clip_lt 99 (by norm_num) le_rfl
  | coe r =>
    rw [← EReal.coe_strictMono.monotone.map_max, ← EReal.coe_strictMono.monotone.map_min]
    exact fptosi_clip_lt _ (le_min (by norm_num) (le_max_left _ _)) (min_le_left _ _)

/-- The level that a feature picks. -/
def level (u : EReal) : Fin 100 := ⟨(levelWord u).toNat, levelWord_lt u⟩

/-- The word of a feature is its level. -/
theorem levelWord_eq (u : EReal) : levelWord u = BitVec.ofNat 32 (level u).val := by
  apply BitVec.eq_of_toNat_eq
  have := levelWord_lt u
  simp only [level, BitVec.toNat_ofNat]
  omega

/-- The count of row `b` at dimension `d`: the bound bits summed over the 26 positions. -/
def count (x : (⟨2, ![1024, 26]⟩ : Shape).Idx → EReal) (p : (⟨2, ![26, 4096]⟩ : Shape).Idx → BitVec 8)
    (v : (⟨2, ![100, 4096]⟩ : Shape).Idx → BitVec 8) (b : Fin 1024) (d : Fin 4096) : ℕ :=
  ∑ s : Fin 26, (p (ix2 s d) ^^^ v (ix2 (level (x (ix2 b s))) d)).toNat

/-- The majority vote of 26 bits of which `n` are set. -/
def vote (n : ℕ) : BitVec 8 := if 13 ≤ n then 1#8 else 0#8

/-- A signed comparison of two small words compares their values. -/
theorem sge_small (n k : ℕ) (hn : n < 2 ^ 31) (hk : k < 2 ^ 31) :
    IntOp.cmpi .sge (BitVec.ofNat 32 n) (BitVec.ofNat 32 k) = BitVec.ofBool (decide (k ≤ n)) := by
  have e (a : ℕ) (ha : a < 2 ^ 31) : (BitVec.ofNat 32 a).toInt = a := by
    rw [BitVec.toInt_eq_toNat_of_lt (by rw [BitVec.toNat_ofNat]; omega), BitVec.toNat_ofNat]; omega
  simp only [IntOp.cmpi, BitVec.sle, e n hn, e k hk, Nat.cast_le]

/-- A comparison of small words, widened to a byte, is a vote where the comparison says whether 13 is reached. -/
theorem vote_of_sge (n k c : ℕ) (hn : n < 2 ^ 31) (hk : k < 2 ^ 31) (h : k ≤ n ↔ 13 ≤ c) :
    (IntOp.cmpi .sge (BitVec.ofNat 32 n) (BitVec.ofNat 32 k)).setWidth 8 = vote c := by
  rw [sge_small n k hn hk, vote]
  by_cases hc : 13 ≤ c
  · rw [if_pos hc, decide_eq_true (h.2 hc)]; rfl
  · rw [if_neg hc, decide_eq_false (fun hk => hc (h.1 hk))]; rfl

/-- A count of at most 26 in the low five bits of a word is read back by the mask 31. -/
theorem low_field (m n : ℕ) (hm : m ≤ 26) (hn : n ≤ 26) :
    BitVec.ofNat 32 (m + 32 * n) &&& 31#32 = BitVec.ofNat 32 m := by
  apply BitVec.eq_of_toNat_eq
  rw [BitVec.toNat_and, BitVec.toNat_ofNat, BitVec.toNat_ofNat, BitVec.toNat_ofNat,
    show 31 % 2 ^ 32 = 2 ^ 5 - 1 from rfl, Nat.and_two_pow_sub_one_eq_mod]
  omega

/-- Two bits in one word: the first at bit 0, the second at bit 5. -/
def pack (lo hi : BitVec 8) : BitVec 32 := lo.setWidth 32 ||| (hi.setWidth 32 <<< (5#32))

/-- A byte that is at most 1 is 0 or 1. -/
theorem bit_cases (a : BitVec 8) (h : a.toNat ≤ 1) : a = 0#8 ∨ a = 1#8 := by
  rcases Nat.le_one_iff_eq_zero_or_eq_one.1 h with h | h
  · exact Or.inl (BitVec.eq_of_toNat_eq h)
  · exact Or.inr (BitVec.eq_of_toNat_eq h)

/-- The XOR of two bits is a bit. -/
theorem xor_bit_le (a c : BitVec 8) (ha : a.toNat ≤ 1) (hc : c.toNat ≤ 1) : (a ^^^ c).toNat ≤ 1 := by
  rcases bit_cases a ha with rfl | rfl <;> rcases bit_cases c hc with rfl | rfl <;> decide

/-- The XOR of packed bits is the packed XOR: as a number, the low XOR plus 32 times the high one. -/
theorem pack_xor (a b c d : BitVec 8) (ha : a.toNat ≤ 1) (hb : b.toNat ≤ 1) (hc : c.toNat ≤ 1) (hd : d.toNat ≤ 1) :
    (pack a b ^^^ pack c d).toInt = (((a ^^^ c).toNat + 32 * (b ^^^ d).toNat : ℕ) : ℤ) := by
  rcases bit_cases a ha with rfl | rfl <;> rcases bit_cases b hb with rfl | rfl <;>
    rcases bit_cases c hc with rfl | rfl <;> rcases bit_cases d hd with rfl | rfl <;> decide

/-- A small natural number, as a real, becomes its own word. -/
theorem fptosi_natCast (n : ℕ) (h : n < 2 ^ 31) : Ideal.fptosi 32 ((n : ℝ) : EReal) = BitVec.ofNat 32 n := by
  show BitVec.ofInt 32 (max _ (min _ (if 0 ≤ (n : ℝ) then ⌊(n : ℝ)⌋ else ⌈(n : ℝ)⌉))) = _
  rw [if_pos (Nat.cast_nonneg n), Int.floor_natCast, max_eq_right, min_eq_right, BitVec.ofInt_natCast]
  · norm_num at h ⊢; omega
  · norm_num at h ⊢

/-- A sum of natural numbers, each read as a real, is the real of the sum. -/
theorem coe_sum_nat {ι : Type} (S : Finset ι) (f : ι → ℕ) :
    ∑ i ∈ S, (((f i : ℕ) : ℝ) : EReal) = ((∑ i ∈ S, f i : ℕ) : ℝ) := by
  classical
  induction S using Finset.induction_on with
  | empty => simp
  | insert a S ha ih => rw [Finset.sum_insert ha, Finset.sum_insert ha, ih, Nat.cast_add, EReal.coe_add]

/-- The row's counts stay within 26 where the weights are bits. -/
theorem count_le (x : (⟨2, ![1024, 26]⟩ : Shape).Idx → EReal) (p : (⟨2, ![26, 4096]⟩ : Shape).Idx → BitVec 8)
    (v : (⟨2, ![100, 4096]⟩ : Shape).Idx → BitVec 8) (hp : ∀ i, (p i).toNat ≤ 1) (hv : ∀ i, (v i).toNat ≤ 1)
    (b : Fin 1024) (d : Fin 4096) : count x p v b d ≤ 26 :=
  (Finset.sum_le_card_nsmul _ _ 1 fun _ _ => xor_bit_le _ _ (hp _) (hv _)).trans (by simp)

end Cert.Hyper
-- ==== Proof.Kernel.lean ====
module

public import proofs.«01_k».proof.Proof.Gen.KernelIdeal.Value
public import proofs.«01_k».proof.Proof.Spec
public import Idealize.ShloMosaic.Lib.Pipeline.Value
public import Idealize.ShloMosaic.Lib.Pipeline.ValueKit

@[expose] public section

noncomputable section

/-! # What the kernel computes

The kernel packs the two halves of every hypervector in one word, writes the 26 slabs of packed XORs below each other,
and picks by a one-hot row of masks one line of every slab. Its product is the pair of counts in one word. -/

namespace Cert.Hyper

open Idealize.ShloMosaic Idealize.ShloMosaic.Pointwise Cert.KernelIdeal Cert.KernelIdeal.Gen

/-- A row of the packed positions lies inside them. -/
theorem rowFits (s : Fin 26) : S26x2048.Slices ![s.val, 0] S1x2048 := by
  revert s; decide

/-- A column of the level words lies inside them. -/
theorem colFits (s : Fin 26) : S1024x26.Slices ![0, s.val] S1024x1 := by
  revert s; decide

/-- Slab `s` of the table: the packed position `s` XORed with every packed level. -/
def slab (P : IVec S26x2048 32) (V : IVec S128x2048 32) (s : Fin 26) : FVec Ideal S128x2048 .bf16 :=
  sitofp .bf16 (xori (broadcastTo S128x2048 (extractStridedSlice S1x2048 ![s.val, 0] P (rowFits s))
    broadcasts_S1x2048_S128x2048) V)

/-- Mask `s` of the selection: where the level word of position `s` is the column's number. -/
def mask (W : IVec S1024x26 32) (s : Fin 26) : IVec S1024x128 1 :=
  cmpi .eq (broadcastTo S1024x128 (extractStridedSlice S1024x1 ![0, s.val] W (colFits s))
    broadcasts_S1024x1_S1024x128) (iota .tc S1024x128 32 [1] iota_S1024x128_d1_w32)

/-- The kernel's table is the concatenation of the 26 slabs, line `k` being line `k % 128` of slab `k / 128`. -/
theorem table_apply (x : Vec Ideal S1024x26 .f32) (p : Vec Ideal S26x4096 .i8) (v : Vec Ideal S100x4096 .i8)
    (k : Fin 3328) (q : Fin 2048) :
    k0_pay48 x p v (ix2 k q) = slab (k0_pay4 (View.ld p r0_1)) (k0_pay3 (View.ld v r0_0))
      ⟨k.val / 128, by omega⟩ (ix2 ⟨k.val % 128, by omega⟩ q) :=
  concatenate_ofFn_apply (t := S3328x2048) (s₁ := S128x2048) 0
    (slab (k0_pay4 (View.ld p r0_1)) (k0_pay3 (View.ld v r0_0)))
    concatenates_S128x2048_S128x2048_S128x2048_S128x2048_S128x2048_S128x2048_S128x2048_S128x2048_S128x2048_S128x2048_S128x2048_S128x2048_S128x2048_S128x2048_S128x2048_S128x2048_S128x2048_S128x2048_S128x2048_S128x2048_S128x2048_S128x2048_S128x2048_S128x2048_S128x2048_S128x2048_S3328x2048_d0
    rfl 128 rfl (ix2 k q) ⟨k.val / 128, by omega⟩ rfl (ix2 ⟨k.val % 128, by omega⟩ q) rfl
    (fun a ha => by
      match a with
      | ⟨0, _⟩ => exact absurd rfl ha
      | ⟨1, _⟩ => rfl)

/-- The 26 masks side by side. -/
def masks (W : IVec S1024x26 32) : IVec S1024x3328 1 :=
  concatenate S1024x3328 1 (List.ofFn fun s : Fin 26 => (⟨S1024x128, mask W s⟩ : (s : Shape) × (s.Idx → BitVec 1)))
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x3328_d1

/-- Column `k` of the masks is column `k % 128` of mask `k / 128`. -/
theorem masks_apply (W : IVec S1024x26 32) (b : Fin 1024) (k : Fin 3328) :
    masks W (ix2 b k) = mask W ⟨k.val / 128, by omega⟩ (ix2 b ⟨k.val % 128, by omega⟩) :=
  concatenate_ofFn_apply (t := S1024x3328) (s₁ := S1024x128) 1 (mask W) concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x3328_d1
    rfl 128 rfl (ix2 b k) ⟨k.val / 128, by omega⟩ rfl (ix2 b ⟨k.val % 128, by omega⟩) rfl
    (fun a ha => by
      match a with
      | ⟨0, _⟩ => rfl
      | ⟨1, _⟩ => exact absurd rfl ha)

/-- The kernel's word of counts, over its arguments. -/
def countWord (x : Vec Ideal S1024x26 .f32) (p : Vec Ideal S26x4096 .i8) (v : Vec Ideal S100x4096 .i8) : IVec S1024x2048 32 :=
  k0_pay43 (k0_pay48 x p v) (k0_pay49 x p v) (k0_pay47 x p v) (k0_pay50 x p v) (k0_pay51 x p v) (k0_pay52 x p v)
    (k0_pay53 x p v) (k0_pay54 x p v) (k0_pay55 x p v) (k0_pay56 x p v) (k0_pay57 x p v) (k0_pay58 x p v) (k0_pay59 x p v)

/-- The word of counts is the product of the masks, side by side, and the table, as a word. -/
theorem countWord_eq (x : Vec Ideal S1024x26 .f32) (p : Vec Ideal S26x4096 .i8) (v : Vec Ideal S100x4096 .i8) :
    countWord x p v = fptosi 32 (matmul dot_S1024x3328_S3328x2048_S1024x2048_1_0_0_1_n_n none
      (truncf .bf16 (sitofp (F := Ideal) .f32 (extui 32 (masks (k0_pay32 (View.ld x r0_2))) natLt_1_32)) bitsLt_bf16_f32)
      (k0_pay48 x p v) (constant S1024x2048 .f32 0x00000000#32)) := rfl

/-- The level words: each feature's clipped lattice point. -/
theorem levels_apply (x : Vec Ideal S1024x26 .f32) (b : Fin 1024) (s : Fin 26) :
    k0_pay32 x (ix2 b s) = levelWord (x (ix2 b s)) := by
  pointwise [k0_pay32]
  rfl

/-- The packed positions: dimension `q` and dimension `q + 2048` in one word. -/
theorem positions_apply (p : Vec Ideal S26x4096 .i8) (s : Fin 26) (q : Fin 2048) :
    k0_pay4 p (ix2 s q) = pack (p (ix2 s ⟨q.val, by omega⟩)) (p (ix2 s ⟨2048 + q.val, by omega⟩)) := by
  pointwise [k0_pay4]
  rfl

/-- The packed levels, on the 100 lines that are levels. -/
theorem values_apply (v : Vec Ideal S100x4096 .i8) (l : Fin 100) (q : Fin 2048) :
    k0_pay3 v (ix2 ⟨l.val, by omega⟩ q) = pack (v (ix2 l ⟨q.val, by omega⟩)) (v (ix2 l ⟨2048 + q.val, by omega⟩)) := by
  pointwise [k0_pay3]
  rfl

/-- A mask's number: 1 where the level is the column's number, else 0. -/
theorem mask_apply (W : IVec S1024x26 32) (s : Fin 26) (b : Fin 1024) (n : ℕ) (hn : n < 128)
    (hW : W (ix2 b s) = BitVec.ofNat 32 n) (l : Fin 128) :
    (FloatOps.sitofp (F := Ideal) FTy.f32 ((mask W s (ix2 b l)).setWidth 32) : EReal) = if l = ⟨n, hn⟩ then 1 else 0 := by
  pointwise [mask]
  rw [hW]
  by_cases h : l = ⟨n, hn⟩
  · subst h
    rw [if_pos rfl]
    simp only [IntOp.cmpi, beq_self_eq_true]
    show (((1#32).toInt : ℝ) : EReal) = 1
    norm_num
  · have hne : (BitVec.ofNat 32 n == BitVec.ofNat 32 l.val) = false := by
      rw [beq_eq_false_iff_ne]
      intro e
      have := congrArg BitVec.toNat e
      rw [BitVec.toNat_ofNat, BitVec.toNat_ofNat] at this
      exact h (Fin.ext (by show l.val = n; omega))
    rw [if_neg h]
    simp only [IntOp.cmpi, hne]
    show (((0#32).toInt : ℝ) : EReal) = 0
    norm_num

/-- The product of a field of masks and a table, as a word, read at an index. -/
theorem product_apply (A : IVec S1024x3328 1) (B : FVec Ideal S3328x2048 .bf16) (b : Fin 1024) (q : Fin 2048) :
    fptosi 32 (matmul dot_S1024x3328_S3328x2048_S1024x2048_1_0_0_1_n_n none
      (truncf .bf16 (sitofp (F := Ideal) .f32 (extui 32 A natLt_1_32)) bitsLt_bf16_f32) B
      (constant S1024x2048 .f32 0x00000000#32)) (ix2 b q)
      = Ideal.fptosi 32 (∑ k : Fin 3328,
          (FloatOps.sitofp (F := Ideal) FTy.f32 ((A (ix2 b k)).setWidth 32) : EReal) * B (ix2 k q)) := by
  pointwise []
  rfl

/-- A one-hot selection from 26 slabs of 128 lines each: what is left is one line of every slab. -/
theorem one_hot_sum (T : Fin 26 → Fin 128 → EReal) (pick : Fin 26 → Fin 128) :
    ∑ k : Fin 3328, (if (⟨k.val % 128, by omega⟩ : Fin 128) = pick ⟨k.val / 128, by omega⟩ then (1 : EReal) else 0)
      * T ⟨k.val / 128, by omega⟩ ⟨k.val % 128, by omega⟩ = ∑ s, T s (pick s) := by
  refine (Fin.sum_divmod_fin (N := 3328) (A := 26) 128 (fun s l => (if l = pick s then (1 : EReal) else 0) * T s l)).trans ?_
  exact Finset.sum_congr rfl fun s _ => by simp

/-- A selected entry of a slab: the two bound bits of a position, as one number. -/
theorem slab_apply (p : Vec Ideal S26x4096 .i8) (v : Vec Ideal S100x4096 .i8)
    (hp : ∀ i, (p i).toNat ≤ 1) (hv : ∀ i, (v i).toNat ≤ 1) (s : Fin 26) (l : Fin 100) (q : Fin 2048) :
    slab (k0_pay4 p) (k0_pay3 v) s (ix2 ⟨l.val, by omega⟩ q)
      = (((p (ix2 s ⟨q.val, by omega⟩) ^^^ v (ix2 l ⟨q.val, by omega⟩)).toNat
          + 32 * (p (ix2 s ⟨2048 + q.val, by omega⟩) ^^^ v (ix2 l ⟨2048 + q.val, by omega⟩)).toNat : ℕ) : ℝ) := by
  have e := pack_xor _ _ _ _ (hp (ix2 s ⟨q.val, by omega⟩)) (hp (ix2 s ⟨2048 + q.val, by omega⟩))
    (hv (ix2 l ⟨q.val, by omega⟩)) (hv (ix2 l ⟨2048 + q.val, by omega⟩))
  rw [← positions_apply p, ← values_apply v] at e
  pointwise [slab]
  show (((_ ^^^ _ : BitVec 32).toInt : ℝ) : EReal) = _
  rw [e, Int.cast_natCast]

/-- THE PRODUCT: the word of counts at `(b, q)` holds the count of dimension `q` plus 32 times that of `q + 2048`. -/
theorem countWord_apply (x : Vec Ideal S1024x26 .f32) (p : Vec Ideal S26x4096 .i8) (v : Vec Ideal S100x4096 .i8)
    (hp : ∀ i, (p i).toNat ≤ 1) (hv : ∀ i, (v i).toNat ≤ 1) (b : Fin 1024) (q : Fin 2048) :
    countWord x p v (ix2 b q) = BitVec.ofNat 32
      (count x p v b ⟨q.val, by omega⟩ + 32 * count x p v b ⟨2048 + q.val, by omega⟩) := by
  have hx : View.ld x r0_2 = x := View.ld_unit_lit _ x (by decide)
  have hP : View.ld p r0_1 = p := View.ld_unit_lit _ p (by decide)
  have hV : View.ld v r0_0 = v := View.ld_unit_lit _ v (by decide)
  have hlo := count_le x p v hp hv b ⟨q.val, by omega⟩
  have hhi := count_le x p v hp hv b ⟨2048 + q.val, by omega⟩
  rw [countWord_eq, product_apply, ← fptosi_natCast _ (by omega)]
  refine congrArg (Ideal.fptosi 32) ?_
  have hk (k : Fin 3328) := mask_apply (k0_pay32 x) ⟨k.val / 128, by omega⟩ b _
    ((level (x (ix2 b ⟨k.val / 128, by omega⟩))).isLt.trans (by decide))
    ((levels_apply x b _).trans (levelWord_eq _)) ⟨k.val % 128, by omega⟩
  rw [Finset.sum_congr rfl fun k _ => by rw [masks_apply, table_apply, hx, hP, hV, hk k]]
  rw [one_hot_sum (fun s l => slab (k0_pay4 p) (k0_pay3 v) s (ix2 l q))
    (fun s => ⟨(level (x (ix2 b s))).val, (level (x (ix2 b s))).isLt.trans (by decide)⟩)]
  rw [Finset.sum_congr rfl fun s _ => slab_apply p v hp hv s _ q, coe_sum_nat, Finset.sum_add_distrib, ← Finset.mul_sum]
  rfl

/-- The word that the first half votes on, over the kernel's arguments. -/
def lowWord (x : Vec Ideal S1024x26 .f32) (p : Vec Ideal S26x4096 .i8) (v : Vec Ideal S100x4096 .i8) : IVec S1024x2048 32 :=
  k0_pay44 (k0_pay48 x p v) (k0_pay49 x p v) (k0_pay47 x p v) (k0_pay50 x p v) (k0_pay51 x p v) (k0_pay52 x p v)
    (k0_pay53 x p v) (k0_pay54 x p v) (k0_pay55 x p v) (k0_pay56 x p v) (k0_pay57 x p v) (k0_pay58 x p v) (k0_pay59 x p v)

/-- The word that the first half votes on is the low field of the word of counts. -/
theorem lowWord_eq (x : Vec Ideal S1024x26 .f32) (p : Vec Ideal S26x4096 .i8) (v : Vec Ideal S100x4096 .i8) :
    lowWord x p v = andi (countWord x p v) (broadcast S1024x2048 31#32) := rfl

/-- The vote of the first half: the low field against 13. -/
theorem low_vote (x : Vec Ideal S1024x26 .f32) (p : Vec Ideal S26x4096 .i8) (v : Vec Ideal S100x4096 .i8)
    (hp : ∀ i, (p i).toNat ≤ 1) (hv : ∀ i, (v i).toNat ≤ 1) (b : Fin 1024) (q : Fin 2048) :
    k0_pay1 (lowWord x p v) 13#32 (ix2 b q) = vote (count x p v b ⟨q.val, by omega⟩) := by
  have hlo := count_le x p v hp hv b ⟨q.val, by omega⟩
  have hhi := count_le x p v hp hv b ⟨2048 + q.val, by omega⟩
  rw [lowWord_eq]
  pointwise [k0_pay1]
  rw [countWord_apply x p v hp hv b q, IntOp.andi, low_field _ _ hlo hhi]
  exact vote_of_sge _ 13 _ (by omega) (by norm_num) Iff.rfl

/-- The vote of the second half: the word of counts against 13 times 32. -/
theorem high_vote (x : Vec Ideal S1024x26 .f32) (p : Vec Ideal S26x4096 .i8) (v : Vec Ideal S100x4096 .i8)
    (hp : ∀ i, (p i).toNat ≤ 1) (hv : ∀ i, (v i).toNat ≤ 1) (b : Fin 1024) (q : Fin 2048) :
    k0_pay2 (countWord x p v) (ix2 b q) = vote (count x p v b ⟨2048 + q.val, by omega⟩) := by
  have hlo := count_le x p v hp hv b ⟨q.val, by omega⟩
  have hhi := count_le x p v hp hv b ⟨2048 + q.val, by omega⟩
  pointwise [k0_pay2]
  rw [countWord_apply x p v hp hv b q]
  exact vote_of_sge _ 416 _ (by omega) (by norm_num) (by omega)

/-- The kernel's array is its two halves, each stored at its columns. -/
theorem halves_eq (x : Vec Ideal S1024x26 .f32) (p : Vec Ideal S26x4096 .i8) (v : Vec Ideal S100x4096 .i8) :
    Value.G3 x p v = View.canon [⟨r0_4, k0_pay2 (countWord x p v)⟩, ⟨r0_3, k0_pay1 (lowWord x p v) 13#32⟩] := rfl

/-- THE KERNEL'S RESULT at `(b, d)`: the majority vote of the row's count there. -/
theorem kernel_apply (x : Vec Ideal S1024x26 .f32) (p : Vec Ideal S26x4096 .i8) (v : Vec Ideal S100x4096 .i8)
    (hp : ∀ i, (p i).toNat ≤ 1) (hv : ∀ i, (v i).toNat ≤ 1) (b : Fin 1024) (d : Fin 4096) :
    Value.G3 x p v (ix2 b d) = vote (count x p v b d) := by
  have hlow := low_vote x p v hp hv b
  have hhigh := high_vote x p v hp hv b
  rw [halves_eq]
  revert hlow hhigh
  generalize k0_pay2 (countWord x p v) = H
  generalize k0_pay1 (lowWord x p v) 13#32 = L
  intro hlow hhigh
  canon_tiles i h
  · idx_vars i
    obtain rfl : b = i0 := Fin.ext h0
    rw [hhigh]
    exact congrArg (fun e => vote (count x p v _ e)) (Fin.ext h1.symm)
  · idx_vars i
    obtain rfl : b = i0 := Fin.ext h0
    rw [hlow]
    exact congrArg (fun e => vote (count x p v _ e)) (Fin.ext h1.symm)

end Cert.Hyper
-- ==== Proof.Reference.lean ====
module

public import proofs.«01_k».proof.Proof.Gen.ReferenceIdeal.Run
public import proofs.«01_k».proof.Proof.Spec
public import Idealize.ShloMosaic.Lib.Tactic.CleanTypes

@[expose] public section

noncomputable section

/-! # What the reference computes

The reference takes the level's row of the table by a gather, XORs it with the position's row, sums over the positions
and votes. Its index never leaves the table, so the gather's guards do nothing. -/

namespace Cert.Hyper

open Idealize.ShloMosaic Idealize.ShloMosaic.Pointwise Cert.ReferenceIdeal Cert.ReferenceIdeal.Gen

/-- The reference's level words. -/
def refLevels (x : FVec Ideal S1024x26 .f32) : IVec S1024x26 32 :=
  fptosi 32 (minimumf (broadcastInDim S1024x26 ![] bcast_S_S1024x26 (sitofp .f32 (constantI S_ 32 99#32)))
    (maximumf (broadcastInDim S1024x26 ![] bcast_S_S1024x26 (sitofp .f32 (constantI S_ 32 0#32)))
      (Host.roundeven (mulf (Host.divf (subf x (broadcastInDim S1024x26 ![] bcast_S_S1024x26 (constant S_ .f32 0x00000000#32)))
        (broadcastInDim S1024x26 ![] bcast_S_S1024x26 (constant S_ .f32 0x3F800000#32)))
        (broadcastInDim S1024x26 ![] bcast_S_S1024x26 (constant S_ .f32 0x42C60000#32))))))

/-- They are the clipped lattice points. -/
theorem refLevels_apply (x : FVec Ideal S1024x26 .f32) (b : Fin 1024) (s : Fin 26) :
    refLevels x (ix2 b s) = levelWord (x (ix2 b s)) := by
  pointwise [refLevels]
  rfl

/-- A level is not negative, so the count from the table's end leaves it. -/
theorem wrap_level (n : Fin 100) :
    Scalar.select (IntOp.cmpi .slt (BitVec.ofNat 32 n.val) 0#32) (IntOp.addi (BitVec.ofNat 32 n.val) 100#32)
      (BitVec.ofNat 32 n.val) = BitVec.ofNat 32 n.val := by
  revert n; decide

/-- A level lies inside the table. -/
theorem level_inside (n : Fin 100) :
    IntOp.andi (IntOp.cmpi .sge (BitVec.ofNat 32 n.val) 0#32) (IntOp.cmpi .sle (BitVec.ofNat 32 n.val) 99#32) = 1#1 := by
  revert n; decide

/-- A level, read as a signed number and clamped to the table, is itself. -/
theorem clamp_level (n : Fin 100) : min (BitVec.ofNat 32 n.val).toInt.toNat 99 = n.val := by
  revert n; decide

/-- The gather's start indices for level words `L`: a negative word counted from the table's end. -/
def starts (L : IVec S1024x26 32) : IVec S1024x26x1 32 :=
  broadcastInDim S1024x26x1 ![0, 1] bcast_S1024x26_S1024x26x1_0_1
    (select (cmpi .slt L (broadcastInDim S1024x26 ![] bcast_S_S1024x26 (constantI S_ 32 0#32)))
      (addi L (broadcastInDim S1024x26 ![] bcast_S_S1024x26 (constantI S_ 32 100#32))) L)

/-- A level word is not negative, so it is its own start index. -/
theorem starts_apply (L : IVec S1024x26 32) (b : Fin 1024) (s : Fin 26) (n : Fin 100) (hn : L (ix2 b s) = BitVec.ofNat 32 n.val)
    (z : Fin 1) : starts L (ix3 b s z) = BitVec.ofNat 32 n.val := by
  pointwise [starts]
  rw [hn]
  exact wrap_level n

/-- The guard of the take: whether every start index is a line of the table. -/
def guard (T : IVec S1024x26x1 32) : IVec S1024x26 1 :=
  Host.reduce IntOp.andi (andi (cmpi .sge T (broadcastInDim S1024x26x1 ![] bcast_S_S1024x26x1 (constantI S_ 32 0#32)))
    (cmpi .sle T (broadcastInDim S1024x26x1 ![0, 1, 2] bcast_S1x1x1_S1024x26x1_0_1_2
      (broadcastInDim S1x1x1 ![2] bcast_S1_S1x1x1_2 (constantI S1 32 99#32)))))
    (constantI S_ 1 1#1) reducesTo_S1024x26x1_S1024x26_d2 h_S_

/-- At a level the guard holds. -/
theorem guard_apply (T : IVec S1024x26x1 32) (b : Fin 1024) (s : Fin 26) (n : Fin 100)
    (hn : ∀ z, T (ix3 b s z) = BitVec.ofNat 32 n.val) : guard T (ix2 b s) = 1#1 := by
  pointwise [guard]
  rw [Finset.fold_congr (g := fun _ => 1#1) fun z _ => by rw [hn z]; exact level_inside n]
  rfl

/-- The gather at a start index that is a line of the table reads that line. -/
theorem gather_apply (v : IVec S100x4096 8) (T : IVec S1024x26x1 32) (b : Fin 1024) (s : Fin 26) (d : Fin 4096) (n : Fin 100)
    (hn : ∀ z, T (ix3 b s z) = BitVec.ofNat 32 n.val) :
    Host.gather gather_S100x4096_S1024x26x1_S1024x26x4096_2_0_n_n_0_2_14096 v T (ix3 b s d) = v (ix2 n d) := by
  refine congrArg v (funext fun a => Fin.ext ?_)
  match a with
  | ⟨0, _⟩ =>
    have hmem : (0 : Fin 2) ∈ gather_S100x4096_S1024x26x1_S1024x26x4096_2_0_n_n_0_2_14096.startIndexMap :=
      List.mem_singleton.mpr rfl
    show GatherDims.start _ (ix3 b s d) T 0 + GatherDims.batchCoord _ (ix3 b s d) 0 + GatherDims.offCoord _ (ix3 b s d) 0 = n.val
    rw [GatherDims.batchCoord_eq_zero _ _ _ List.not_mem_nil, GatherDims.offCoord_eq_zero _ _ _
      (fun h => ((GatherDims.mem_sKept _ _).mp h).1 (List.mem_singleton.mpr rfl)), GatherDims.start, dif_pos hmem]
    have e : GatherDims.siIdx gather_S100x4096_S1024x26x1_S1024x26x4096_2_0_n_n_0_2_14096 (ix3 b s d)
        ⟨_, List.idxOf_lt_length_iff.2 hmem⟩ = ix3 b s 0 := by
      funext c
      match c with
      | ⟨0, _⟩ => rfl
      | ⟨1, _⟩ => rfl
      | ⟨2, _⟩ => rfl
    rw [e, hn]
    exact clamp_level n
  | ⟨1, _⟩ =>
    show 0 + 0 + d.val = d.val
    omega

/-- The reference's result over its arguments. -/
def refVote (x : FVec Ideal S1024x26 .f32) (p : IVec S26x4096 8) (v : IVec S100x4096 8) : IVec S1024x4096 8 :=
  extui 8 (cmpi .sge (muli (Host.reduce IntOp.addi (xori (broadcastInDim S1024x26x4096 ![0, 1, 2] bcast_S1x26x4096_S1024x26x4096_0_1_2 (broadcastInDim S1x26x4096 ![1, 2] bcast_S26x4096_S1x26x4096_1_2 (extui 32 p natLt_8_32)))
   (extui 32 (select (broadcastInDim S1024x26x4096 ![0, 1] bcast_S1024x26_S1024x26x4096_0_1 (guard (starts (refLevels x))))
      (Host.gather gather_S100x4096_S1024x26x1_S1024x26x4096_2_0_n_n_0_2_14096 v (starts (refLevels x)))
      (broadcastInDim S1024x26x4096 ![] bcast_S_S1024x26x4096 (constantI S_ 8 255#8))) natLt_8_32))
      (constantI S_ 32 0#32) reducesTo_S1024x26x4096_S1024x4096_d1 h_S_)
    (broadcastInDim S1024x4096 ![] bcast_S_S1024x4096 (constantI S_ 32 2#32)))
    (broadcastInDim S1024x4096 ![] bcast_S_S1024x4096 (constantI S_ 32 26#32))) natLt_1_8

/-- The reference's term is that function of its arguments. -/
theorem ref_term (m : (ℓ : Loc nD τ sig) → Buf (Elt Ideal) ℓ) (c : Dev nD) :
    Value.res_main_v20 m c = refVote (m ((c.tc : Thread nD τ).loc main_arg0)) (m ((c.tc : Thread nD τ).loc main_arg1))
      (m ((c.tc : Thread nD τ).loc main_arg2)) := rfl

/-- A sum of widened bytes, taken by the word addition, is the word of the sum of the bytes. -/
theorem fold_addi_nat {ι : Type} (S : Finset ι) (f : ι → BitVec 8) :
    S.fold IntOp.addi (0#32) (fun k => (f k).setWidth 32) = BitVec.ofNat 32 (∑ k ∈ S, (f k).toNat) := by
  classical
  induction S using Finset.induction_on with
  | empty => rfl
  | insert a S ha ih =>
    rw [Finset.fold_insert ha, ih, Finset.sum_insert ha, IntOp.addi, BitVec.ofNat_add]
    exact congrArg (· + _) (BitVec.eq_of_toNat_eq (by simp))

/-- A count of 26 bytes is small. -/
theorem count_lt (x : (⟨2, ![1024, 26]⟩ : Shape).Idx → EReal) (p : (⟨2, ![26, 4096]⟩ : Shape).Idx → BitVec 8)
    (v : (⟨2, ![100, 4096]⟩ : Shape).Idx → BitVec 8) (b : Fin 1024) (d : Fin 4096) : count x p v b d ≤ 26 * 256 :=
  (Finset.sum_le_card_nsmul _ _ 256 fun _ _ => (BitVec.isLt _).le).trans (by simp)

/-- THE REFERENCE'S RESULT at `(b, d)`: the majority vote of the row's count there. -/
theorem reference_apply (x : FVec Ideal S1024x26 .f32) (p : IVec S26x4096 8) (v : IVec S100x4096 8)
    (b : Fin 1024) (d : Fin 4096) : refVote x p v (ix2 b d) = vote (count x p v b d) := by
  have hL (s : Fin 26) := (refLevels_apply x b s).trans (levelWord_eq _)
  have hT (s : Fin 26) (z : Fin 1) := starts_apply (refLevels x) b s _ (hL s) z
  have hG (s : Fin 26) := guard_apply (starts (refLevels x)) b s _ (hT s)
  have hV (s : Fin 26) := gather_apply v (starts (refLevels x)) b s d _ (hT s)
  have hn := count_lt x p v b d
  unfold refVote
  generalize starts (refLevels x) = T at *
  generalize guard T = G at *
  generalize Host.gather gather_S100x4096_S1024x26x1_S1024x26x4096_2_0_n_n_0_2_14096 v T = V at *
  pointwise []
  have hsum : Finset.fold IntOp.addi (0#32) (fun s => IntOp.xori (BitVec.setWidth 32 (p (ix2 s d)))
      (BitVec.setWidth 32 (Scalar.select (G (ix2 b s)) (V (ix3 b s d)) 255#8))) Finset.univ
      = BitVec.ofNat 32 (count x p v b d) := by
    rw [Finset.fold_congr (g := fun s => (p (ix2 s d) ^^^ v (ix2 (level (x (ix2 b s))) d)).setWidth 32) fun s _ => by
      rw [hG, hV, BitVec.setWidth_xor]; rfl]
    exact fold_addi_nat _ _
  rw [hsum]
  have htwo : IntOp.muli (BitVec.ofNat 32 (count x p v b d)) 2#32 = BitVec.ofNat 32 (count x p v b d * 2) :=
    (BitVec.ofNat_mul _ _).symm
  rw [htwo]
  exact vote_of_sge _ 26 _ (by omega) (by norm_num) (by omega)

end Cert.Hyper
-- ==== Proof.Pre.lean ====
module

public import proofs.«01_k».proof.Proof.Gen.Pre_bits
public import Idealize.ShloMosaic.Lib.Pointwise
public import Idealize.ShloMosaic.Lib.Tactic.CleanTypes

@[expose] public section

noncomputable section

/-! # What the precondition says: every weight is a bit -/

namespace Cert.Hyper

open Idealize.ShloMosaic Idealize.ShloMosaic.Pointwise Cert.Pre_bits Cert.Pre_bits.Gen

/-- Two truth words whose conjunction is true are both true. -/
theorem and_true (a c : BitVec 1) (h : IntOp.andi a c = 1#1) : a = 1#1 ∧ c = 1#1 := by
  revert a c; decide

/-- A conjunction over a finite set that is true is true at every element. -/
theorem fold_and_true {ι : Type} (S : Finset ι) (f : ι → BitVec 1) (h : S.fold IntOp.andi (1#1) f = 1#1) :
    ∀ i ∈ S, f i = 1#1 := by
  classical
  induction S using Finset.induction_on with
  | empty => exact fun i hi => absurd hi (Finset.notMem_empty i)
  | insert a S ha ih =>
    rw [Finset.fold_insert ha] at h
    intro i hi
    rcases Finset.mem_insert.1 hi with rfl | hi
    · exact (and_true _ _ h).1
    · exact ih (and_true _ _ h).2 i hi

/-- A byte that compares at most 1 is at most 1. -/
theorem le_one_of_ule (a : BitVec 8) (h : IntOp.cmpi .ule a 1#8 = 1#1) : a.toNat ≤ 1 := by
  by_contra hn
  have : BitVec.ule a 1#8 = false := by
    simp only [BitVec.ule, BitVec.toNat_ofNat]
    exact decide_eq_false (by omega)
  simp only [IntOp.cmpi, this] at h
  exact absurd h (by decide)

/-- Under the precondition every position's and every level's weight is 0 or 1. -/
theorem bits_of_pre (x : FVec Ideal S1024x26 .f32) (p : IVec S26x4096 8) (v : IVec S100x4096 8)
    (h : Cert.Pre_bits.fn (F := Ideal) x p v = fun _ => 1#1) : (∀ i, (p i).toNat ≤ 1) ∧ ∀ i, (v i).toNat ≤ 1 := by
  have e := congrFun h ix0
  unfold Cert.Pre_bits.fn at e
  clean_types
  pointwise [] at e
  obtain ⟨ep, ev⟩ := and_true _ _ e
  refine ⟨fun i => ?_, fun i => ?_⟩
  · idx_vars i
    exact le_one_of_ule _ (fold_and_true _ _ ep (i0, i1) (Finset.mem_univ _))
  · idx_vars i
    exact le_one_of_ule _ (fold_and_true _ _ ev (i0, i1) (Finset.mem_univ _))

end Cert.Hyper
-- ==== Proof.Equation.lean ====
module

public import proofs.«01_k».proof.Proof.Kernel
public import proofs.«01_k».proof.Proof.Reference
public import proofs.«01_k».proof.Proof.Pre

@[expose] public section

noncomputable section

/-! # The equation: on bits, the reference's array is the kernel's -/

namespace Cert.Hyper

open Idealize.ShloMosaic Idealize.ShloMosaic.Pointwise

/-- Where the weights are bits the reference's result and the kernel's are the same array. -/
theorem refVote_eq_kernel (x : FVec Ideal Cert.KernelIdeal.S1024x26 .f32) (p : IVec Cert.KernelIdeal.S26x4096 8)
    (v : IVec Cert.KernelIdeal.S100x4096 8) (h : Cert.Pre_bits.fn (F := Ideal) x p v = fun _ => 1#1) :
    refVote x p v = Cert.KernelIdeal.Value.G3 (F := Ideal) x p v := by
  obtain ⟨hp, hv⟩ := bits_of_pre x p v h
  funext j
  idx_vars j
  exact (reference_apply x p v j0 j1).trans (kernel_apply x p v hp hv j0 j1).symm

end Cert.Hyper
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_bits
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference leaves its arguments and its counters as they were. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition of the value claim. -/
theorem quiescent_ReferenceIdeal_pre_bits : Cert.quiescent_ReferenceIdeal_pre_bits := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments whose weights are bits, the kernel's result and the reference's are equal. -/
theorem algebraic_KernelIdeal_ReferenceIdeal_pre_bits : Cert.algebraic_KernelIdeal_ReferenceIdeal_pre_bits := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.Hyper.ref_term, (hagree c).1, (hagree c).2.1, (hagree c).2.2]
  exact Cert.Hyper.refVote_eq_kernel _ _ _ (hpre c)

/-- The certificate's claim. -/
theorem claim : Cert.Claim := ⟨Cert.Kernel.Gen.facts, Cert.KernelIdeal.Gen.facts, Cert.ReferenceIdeal.Gen.facts, Cert.Pre_bits.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_bits, (trivial : preserves_Kernel_KernelIdeal),
  algebraic_KernelIdeal_ReferenceIdeal_pre_bits⟩

end Cert.Proof

end
